-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x512 : Shape := ⟨3, ![2, 1024, 512]⟩
abbrev S2x32x512 : Shape := ⟨3, ![2, 32, 512]⟩
abbrev S2x64 : Shape := ⟨2, ![2, 64]⟩
abbrev S1088x512 : Shape := ⟨2, ![1088, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S2x32x512 : S_.BroadcastsInDim S2x32x512 (![] : Fin 0 → Fin S2x32x512.rank)
  reducesTo_S2x32x512_S_d0_1_2 : S2x32x512.ReducesTo [0, 1, 2] S_
  bcast_S_S2x64 : S_.BroadcastsInDim S2x64 (![] : Fin 0 → Fin S2x64.rank)
  reducesTo_S2x64_S_d0_1 : S2x64.ReducesTo [0, 1] S_
  bcast_S_S1088x512 : S_.BroadcastsInDim S1088x512 (![] : Fin 0 → Fin S1088x512.rank)
  reducesTo_S1088x512_S_d0_1 : S1088x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S512x256 .f32) (main_arg8 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x256 .f32) (main_arg8 : FVec F S256 .f32) (main_v13 : IVec S_ 1) (main_v16 : IVec S1088x512 1) : IVec S_ 1 :=
  let main_c_5 : IVec S_ 1 := constantI S_ 1 1#1
  let main_v17 : IVec S_ 1 := (fun x v => Host.reduce IntOp.andi x v reducesTo_S1088x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S2x1024x512 .f32) (main_arg1 : FVec F S2x32x512 .f32) (main_arg2 : FVec F S2x64 .f32) (main_arg3 : FVec F S1088x512 .f32) (main_arg4 : FVec F S512 .f32) (main_arg5 : FVec F S512x512 .f32) (main_arg6 : FVec F S512 .f32) (main_arg7 : FVec F S512x256 .f32) (main_arg8 : FVec F S256 .f32) (main_arg9 : FVec F S256x1 .f32) (main_arg10 : FVec F S1 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S2x32x512 .f32 := Host.absf main_arg1
  let main_cst_0 : FVec F S_ .f32 := constant S_ .f32 0x7F800000#32
  let main_v5 : FVec F S2x32x512 .f32 := broadcastInDim S2x32x512 ![] bcast_S_S2x32x512 main_cst_0
  let main_v6 : IVec S2x32x512 1 := cmpf .olt main_v4 main_v5
  let main_c_1 : IVec S_ 1 := constantI S_ 1 1#1
  let main_v7 : IVec S_ 1 := (fun x v => Host.reduce IntOp.andi x v reducesTo_S2x32x512_S_d0_1_2 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S1088x512 .f32 := Host.absf main_arg3
  let main_cst_4 : FVec F S_ .f32 := constant S_ .f32 0x7F800000#32
  let main_v15 : FVec F S1088x512 .f32 := broadcastInDim S1088x512 ![] bcast_S_S1088x512 main_cst_4
  let main_v16 : IVec S1088x512 1 := cmpf .olt main_v14 main_v15
  fn_part1 (F := F) main_arg4 main_arg5 main_arg6 main_arg7 main_arg8 main_v13 main_v16
-- ==== Kernel.lean ====
abbrev S2x1024x512 : Shape := ⟨3, ![2, 1024, 512]⟩
abbrev S2x32x512 : Shape := ⟨3, ![2, 32, 512]⟩
abbrev S2x64 : Shape := ⟨2, ![2, 64]⟩
abbrev S1088x512 : Shape := ⟨2, ![1088, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1x64 : Shape := ⟨3, ![2, 1, 64]⟩
abbrev S2x512x32 : Shape := ⟨3, ![2, 512, 32]⟩
abbrev S1x512 : Shape := ⟨2, ![1, 512]⟩
abbrev S1x256 : Shape := ⟨2, ![1, 256]⟩
abbrev S1x1 : Shape := ⟨2, ![1, 1]⟩
abbrev S2x1024x32 : Shape := ⟨3, ![2, 1024, 32]⟩
abbrev S1x512x512 : Shape := ⟨3, ![1, 512, 512]⟩
abbrev S1x32x512 : Shape := ⟨3, ![1, 32, 512]⟩
abbrev S1x512x32 : Shape := ⟨3, ![1, 512, 32]⟩
abbrev S1x1x64 : Shape := ⟨3, ![1, 1, 64]⟩
abbrev S32x512 : Shape := ⟨2, ![32, 512]⟩
abbrev S512x32 : Shape := ⟨2, ![512, 32]⟩
abbrev S1x64 : Shape := ⟨2, ![1, 64]⟩
abbrev S64x512 : Shape := ⟨2, ![64, 512]⟩
abbrev S512x1x512 : Shape := ⟨3, ![512, 1, 512]⟩
abbrev S512x32x512 : Shape := ⟨3, ![512, 32, 512]⟩
abbrev S16384x512 : Shape := ⟨2, ![16384, 512]⟩
abbrev S16384x256 : Shape := ⟨2, ![16384, 256]⟩
abbrev S16384x1 : Shape := ⟨2, ![16384, 1]⟩
abbrev S512x1 : Shape := ⟨2, ![512, 1]⟩
abbrev S32 : Shape := ⟨1, ![32]⟩
abbrev S1x32 : Shape := ⟨2, ![1, 32]⟩

abbrev nBuf : Space → Nat
  | .hbm => 23
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x32x512, .f32⟩
  | .hbm, ⟨2, _⟩ => ⟨S2x64, .f32⟩
  | .hbm, ⟨3, _⟩ => ⟨S1088x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2x1x64, .f32⟩
  | .hbm, ⟨12, _⟩ => ⟨S2x512x32, .f32⟩
  | .hbm, ⟨13, _⟩ => ⟨S512x512, .bf16⟩
  | .hbm, ⟨14, _⟩ => ⟨S512x256, .bf16⟩
  | .hbm, ⟨15, _⟩ => ⟨S1x512, .f32⟩
  | .hbm, ⟨16, _⟩ => ⟨S1x512, .f32⟩
  | .hbm, ⟨17, _⟩ => ⟨S1x512, .bf16⟩
  | .hbm, ⟨18, _⟩ => ⟨S1x256, .f32⟩
  | .hbm, ⟨19, _⟩ => ⟨S1x256, .bf16⟩
  | .hbm, ⟨20, _⟩ => ⟨S256x1, .bf16⟩
  | .hbm, ⟨21, _⟩ => ⟨S1x1, .f32⟩
  | .hbm, ⟨22, _⟩ => ⟨S2x1024x32, .f32⟩
  | .local _ .vmem, ⟨0, _⟩ => ⟨S1x512x512, .f32⟩
  | .local _ .vmem, ⟨1, _⟩ => ⟨S1x512x512, .f32⟩
  | .local _ .vmem, ⟨2, _⟩ => ⟨S1x32x512, .f32⟩
  | .local _ .vmem, ⟨3, _⟩ => ⟨S1x32x512, .f32⟩
  | .local _ .vmem, ⟨4, _⟩ => ⟨S1x512x32, .f32⟩
  | .local _ .vmem, ⟨5, _⟩ => ⟨S1x512x32, .f32⟩
  | .local _ .vmem, ⟨6, _⟩ => ⟨S1x1x64, .f32⟩
  | .local _ .vmem, ⟨7, _⟩ => ⟨S1x1x64, .f32⟩
  | .local _ .vmem, ⟨8, _⟩ => ⟨S1088x512, .f32⟩
  | .local _ .vmem, ⟨9, _⟩ => ⟨S1x512, .f32⟩
  | .local _ .vmem, ⟨10, _⟩ => ⟨S512x512, .bf16⟩
  | .local _ .vmem, ⟨11, _⟩ => ⟨S1x512, .bf16⟩
  | .local _ .vmem, ⟨12, _⟩ => ⟨S512x256, .bf16⟩
  | .local _ .vmem, ⟨13, _⟩ => ⟨S1x256, .bf16⟩
  | .local _ .vmem, ⟨14, _⟩ => ⟨S256x1, .bf16⟩
  | .local _ .vmem, ⟨15, _⟩ => ⟨S1x1, .f32⟩
  | .local _ .vmem, ⟨16, _⟩ => ⟨S1x512x32, .f32⟩
  | .local _ .vmem, ⟨17, _⟩ => ⟨S1x512x32, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1088x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x1024x512 : Shape := ⟨3, ![2, 1024, 512]⟩
abbrev S2x32x512 : Shape := ⟨3, ![2, 32, 512]⟩
abbrev S2x64 : Shape := ⟨2, ![2, 64]⟩
abbrev S1088x512 : Shape := ⟨2, ![1088, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1024x1x512 : Shape := ⟨4, ![2, 1024, 1, 512]⟩
abbrev S2x1024x32x512 : Shape := ⟨4, ![2, 1024, 32, 512]⟩
abbrev S2x1x32x512 : Shape := ⟨4, ![2, 1, 32, 512]⟩
abbrev S2x1x1x64 : Shape := ⟨4, ![2, 1, 1, 64]⟩
abbrev S2x1024x32x64 : Shape := ⟨4, ![2, 1024, 32, 64]⟩
abbrev S2x1024x32x1088 : Shape := ⟨4, ![2, 1024, 32, 1088]⟩
abbrev S1x1x1x512 : Shape := ⟨4, ![1, 1, 1, 512]⟩
abbrev S_ : Shape := ⟨0, ![]⟩
abbrev S2x1024x32x256 : Shape := ⟨4, ![2, 1024, 32, 256]⟩
abbrev S1x1x1x256 : Shape := ⟨4, ![1, 1, 1, 256]⟩
abbrev S2x1024x32x1 : Shape := ⟨4, ![2, 1024, 32, 1]⟩
abbrev S1x1x1x1 : Shape := ⟨4, ![1, 1, 1, 1]⟩
abbrev S2x1024x32 : Shape := ⟨3, ![2, 1024, 32]⟩

abbrev nBuf : Space → Nat
  | .hbm => 71
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x32x512, .f32⟩
  | .hbm, ⟨2, _⟩ => ⟨S2x64, .f32⟩
  | .hbm, ⟨3, _⟩ => ⟨S1088x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2x1024x1x512, .f32⟩
  | .hbm, ⟨12, _⟩ => ⟨S2x1024x32x512, .f32⟩
  | .hbm, ⟨13, _⟩ => ⟨S2x1x32x512, .f32⟩
  | .hbm, ⟨14, _⟩ => ⟨S2x1024x32x512, .f32⟩
  | .hbm, ⟨15, _⟩ => ⟨S2x1x1x64, .f32⟩
  | .hbm, ⟨16, _⟩ => ⟨S2x1024x32x64, .f32⟩
  | .hbm, ⟨17, _⟩ => ⟨S2x1024x32x1088, .f32⟩
  | .hbm, ⟨18, _⟩ => ⟨S2x1024x32x512, .f32⟩
  | .hbm, ⟨19, _⟩ => ⟨S1x1x1x512, .f32⟩
  | .hbm, ⟨20, _⟩ => ⟨S2x1024x32x512, .f32⟩
  | .hbm, ⟨21, _⟩ => ⟨S2x1024x32x512, .f32⟩
  | .hbm, ⟨22, _⟩ => ⟨S2x1024x32x512, .f32⟩
  | .hbm, ⟨23, _⟩ => ⟨S2x1024x32x512, .f32⟩
  | .hbm, ⟨24, _⟩ => ⟨S_, .f32⟩
  | .hbm, ⟨25, _⟩ => ⟨S2x1024x32x512, .f32⟩
  | .hbm, ⟨26, _⟩ => ⟨S2x1024x32x512, .f32⟩
  | .hbm, ⟨27, _⟩ => ⟨S_, .f32⟩
  | .hbm, ⟨28, _⟩ => ⟨S2x1024x32x512, .f32⟩
  | .hbm, ⟨29, _⟩ => ⟨S2x1024x32x512, .f32⟩
  | .hbm, ⟨30, _⟩ => ⟨S2x1024x32x512, .f32⟩
  | .hbm, ⟨31, _⟩ => ⟨S2x1024x32x512, .f32⟩
  | .hbm, ⟨32, _⟩ => ⟨S1x1x1x512, .f32⟩
  | .hbm, ⟨33, _⟩ => ⟨S2x1024x32x512, .f32⟩
  | .hbm, ⟨34, _⟩ => ⟨S2x1024x32x512, .f32⟩
  | .hbm, ⟨35, _⟩ => ⟨S2x1024x32x512, .f32⟩
  | .hbm, ⟨36, _⟩ => ⟨S2x1024x32x512, .f32⟩
  | .hbm, ⟨37, _⟩ => ⟨S_, .f32⟩
  | .hbm, ⟨38, _⟩ => ⟨S2x1024x32x512, .f32⟩
  | .hbm, ⟨39, _⟩ => ⟨S2x1024x32x512, .f32⟩
  | .hbm, ⟨40, _⟩ => ⟨S_, .f32⟩
  | .hbm, ⟨41, _⟩ => ⟨S2x1024x32x512, .f32⟩
  | .hbm, ⟨42, _⟩ => ⟨S2x1024x32x512, .f32⟩
  | .hbm, ⟨43, _⟩ => ⟨S2x1024x32x512, .f32⟩
  | .hbm, ⟨44, _⟩ => ⟨S2x1024x32x256, .f32⟩
  | .hbm, ⟨45, _⟩ => ⟨S1x1x1x256, .f32⟩
  | .hbm, ⟨46, _⟩ => ⟨S2x1024x32x256, .f32⟩
  | .hbm, ⟨47, _⟩ => ⟨S2x1024x32x256, .f32⟩
  | .hbm, ⟨48, _⟩ => ⟨S2x1024x32x256, .f32⟩
  | .hbm, ⟨49, _⟩ => ⟨S2x1024x32x256, .f32⟩
  | .hbm, ⟨50, _⟩ => ⟨S_, .f32⟩
  | .hbm, ⟨51, _⟩ => ⟨S2x1024x32x256, .f32⟩
  | .hbm, ⟨52, _⟩ => ⟨S2x1024x32x256, .f32⟩
  | .hbm, ⟨53, _⟩ => ⟨S_, .f32⟩
  | .hbm, ⟨54, _⟩ => ⟨S2x1024x32x256, .f32⟩
  | .hbm, ⟨55, _⟩ => ⟨S2x1024x32x256, .f32⟩
  | .hbm, ⟨56, _⟩ => ⟨S2x1024x32x256, .f32⟩
  | .hbm, ⟨57, _⟩ => ⟨S2x1024x32x1, .f32⟩
  | .hbm, ⟨58, _⟩ => ⟨S1x1x1x1, .f32⟩
  | .hbm, ⟨59, _⟩ => ⟨S2x1024x32x1, .f32⟩
  | .hbm, ⟨60, _⟩ => ⟨S2x1024x32x1, .f32⟩
  | .hbm, ⟨61, _⟩ => ⟨S2x1024x32, .f32⟩
  | .hbm, ⟨62, _⟩ => ⟨S2x1024x32x512, .f32⟩
  | .hbm, ⟨63, _⟩ => ⟨S2x1024x32x512, .f32⟩
  | .hbm, ⟨64, _⟩ => ⟨S_, .f32⟩
  | .hbm, ⟨65, _⟩ => ⟨S2x1024x32, .f32⟩
  | .hbm, ⟨66, _⟩ => ⟨S2x1024x32, .f32⟩
  | .hbm, ⟨67, _⟩ => ⟨S_, .f32⟩
  | .hbm, ⟨68, _⟩ => ⟨S2x1024x32, .f32⟩
  | .hbm, ⟨69, _⟩ => ⟨S2x1024x32, .f32⟩
  | .hbm, ⟨70, _⟩ => ⟨S2x1024x32, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst : Ref sig .tc := ⟨.hbm, 64, rfl⟩
abbrev main_v29 : Ref sig .tc := ⟨.hbm, 65, rfl⟩
abbrev main_v30 : Ref sig .tc := ⟨.hbm, 66, rfl⟩
abbrev main_cst_0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩

abbrev nD : Nat := 1
abbrev τ : Topo := Topo.v7x

variable {F : FTy → Type} [FloatOps F]
-- ==== Proof.Energy.lean ====
/- The two programs' results at one element, as plain formulas over the extended reals: `energyK` in the kernel's order of
   operations and `energyR` in the reference's. Untrusted. -/
module

public import Idealize.ShloMosaic.PureOps.Ideal

@[expose] public section

noncomputable section

namespace Cert.Energy

open Idealize.ShloMosaic

/-- The kernel's activation of `x`: with `m` half of `x`, it is `m + m · tanh m`. -/
def actK (x : EReal) : EReal :=
  Ideal.ofBits .bf16 0x3F00#16 * x + Ideal.ofBits .bf16 0x3F00#16 * x * Ideal.tanh (Ideal.ofBits .bf16 0x3F00#16 * x)

/-- The reference's activation of `x`: `x` times the quotient of 1 by `1 + exp (−x)`. -/
def actR (x : EReal) : EReal := x * Ideal.div 1 (1 + Ideal.exp (-x))

/-- The last three layers of the network over the first hidden layer `h`, with `act` as the activation. -/
def tail (act : EReal → EReal) (h : Fin 512 → EReal) (W2 : Fin 512 → Fin 512 → EReal) (b2 : Fin 512 → EReal)
    (W3 : Fin 512 → Fin 256 → EReal) (b3 : Fin 256 → EReal) (W4 : Fin 256 → EReal) (b4 : EReal) : EReal :=
  ∑ l : Fin 256, act (∑ k : Fin 512, act (∑ j : Fin 512, h j * W2 j k + b2 k) * W3 k l + b3 l) * W4 l + b4

/-- The kernel's distance of `f` and `c`: the root of `|f|² + |c|² − 2 f·c`, cut off below at zero. -/
def distK (f c : Fin 512 → EReal) : EReal :=
  Ideal.sqrt (max (∑ k : Fin 512, f k * f k + ∑ k : Fin 512, c k * c k
    - Ideal.ofBits .f32 0x40000000#32 * ∑ k : Fin 512, f k * c k) 0)

/-- The reference's distance of `f` and `c`: the root of the sum of the squared differences. -/
def distR (f c : Fin 512 → EReal) : EReal :=
  Ideal.sqrt (0 + ∑ k : Fin 512, (f k - c k) * (f k - c k)) * 1

/-- The kernel's first layer at column `j`, before the activation: the three slices of `W1` multiplied apart. -/
def preK (f c : Fin 512 → EReal) (p : Fin 64 → EReal) (W1 : Fin 1088 → Fin 512 → EReal) (b1 : Fin 512 → EReal)
    (j : Fin 512) : EReal :=
  ∑ k : Fin 512, f k * W1 ⟨k, by omega⟩ j + (∑ k : Fin 64, p k * W1 ⟨1024 + k, by omega⟩ j + b1 j)
    + ∑ k : Fin 512, c k * W1 ⟨512 + k, by omega⟩ j

/-- The reference's first layer at column `j`, before the activation: the product of the three vectors laid end to end. -/
def preR (f c : Fin 512 → EReal) (p : Fin 64 → EReal) (W1 : Fin 1088 → Fin 512 → EReal) (b1 : Fin 512 → EReal)
    (j : Fin 512) : EReal :=
  ∑ k : Fin 512, f k * W1 ⟨k, by omega⟩ j + (∑ k : Fin 512, c k * W1 ⟨512 + k, by omega⟩ j
    + ∑ k : Fin 64, p k * W1 ⟨1024 + k, by omega⟩ j) + b1 j

/-- The kernel's energy of a feature vector `f` and a class mean `c`. -/
def energyK (f c : Fin 512 → EReal) (p : Fin 64 → EReal) (W1 : Fin 1088 → Fin 512 → EReal) (b1 : Fin 512 → EReal)
    (W2 : Fin 512 → Fin 512 → EReal) (b2 : Fin 512 → EReal)
    (W3 : Fin 512 → Fin 256 → EReal) (b3 : Fin 256 → EReal) (W4 : Fin 256 → EReal) (b4 : EReal) : EReal :=
  tail actK (fun j => actK (preK f c p W1 b1 j)) W2 b2 W3 b3 W4 b4 + distK f c

/-- The reference's energy of a feature vector `f` and a class mean `c`. -/
def energyR (f c : Fin 512 → EReal) (p : Fin 64 → EReal) (W1 : Fin 1088 → Fin 512 → EReal) (b1 : Fin 512 → EReal)
    (W2 : Fin 512 → Fin 512 → EReal) (b2 : Fin 512 → EReal)
    (W3 : Fin 512 → Fin 256 → EReal) (b3 : Fin 256 → EReal) (W4 : Fin 256 → EReal) (b4 : EReal) : EReal :=
  tail actR (fun j => actR (preR f c p W1 b1 j)) W2 b2 W3 b3 W4 b4 + distR f c

/-- A product with three vectors laid end to end is the sum of the three products with the parts. -/
theorem sum_three (f c : Fin 512 → EReal) (p : Fin 64 → EReal) (w : Fin 1088 → EReal) :
    ∑ k : Fin 1088, (if h : (k : ℕ) < 512 then f ⟨k, h⟩
        else if h' : (k : ℕ) - 512 < 512 then c ⟨k - 512, h'⟩ else p ⟨k - 512 - 512, by omega⟩) * w k
      = ∑ k : Fin 512, f k * w ⟨k, by omega⟩ + (∑ k : Fin 512, c k * w ⟨512 + k, by omega⟩
        + ∑ k : Fin 64, p k * w ⟨1024 + k, by omega⟩) := by
  refine (Fin.sum_univ_add (a := 512) (b := 576) _).trans (congrArg₂ (· + ·) ?_ ?_)
  · refine Finset.sum_congr rfl fun k _ => ?_
    rw [dif_pos (show ((Fin.castAdd 576 k : Fin 1088) : ℕ) < 512 from k.isLt)]
    rfl
  · refine (Fin.sum_univ_add (a := 512) (b := 64) _).trans (congrArg₂ (· + ·) ?_ ?_)
    · refine Finset.sum_congr rfl fun k _ => ?_
      have e : ((Fin.natAdd 512 (Fin.castAdd 64 k) : Fin 1088) : ℕ) = 512 + k := rfl
      rw [dif_neg (by omega), dif_pos (by omega)]
      exact congrArg₂ (· * ·) (congrArg c (Fin.ext (by show 512 + (k : ℕ) - 512 = k; omega))) rfl
    · refine Finset.sum_congr rfl fun k _ => ?_
      have e : ((Fin.natAdd 512 (Fin.natAdd 512 k) : Fin 1088) : ℕ) = 512 + (512 + k) := rfl
      rw [dif_neg (by omega), dif_neg (by omega)]
      exact congrArg₂ (· * ·) (congrArg p (Fin.ext (by show 512 + (512 + (k : ℕ)) - 512 - 512 = k; omega)))
        (congrArg w (Fin.ext (by show 512 + (512 + (k : ℕ)) = 1024 + k; omega)))

end Cert.Energy

end
-- ==== Proof.Block.lean ====
/- What the kernel's result array holds after the run: the kernel's energy at every element. Untrusted. -/
module

public import proofs.«01_k».proof.Proof.Gen.KernelIdeal.Frame
public import proofs.«01_k».proof.Proof.Energy
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Energy

variable (m : (ℓ : Loc nD τ sig) → Buf (Elt Ideal) ℓ)

/-- The kernel's energy at every element of the result, over the argument arrays. -/
def G (X : FVec Ideal S2x1024x512 .f32) (C : FVec Ideal S2x32x512 .f32) (P : FVec Ideal S2x64 .f32)
    (W1 : FVec Ideal S1088x512 .f32) (b1 : FVec Ideal S512 .f32) (W2 : FVec Ideal S512x512 .f32) (b2 : FVec Ideal S512 .f32)
    (W3 : FVec Ideal S512x256 .f32) (b3 : FVec Ideal S256 .f32) (W4 : FVec Ideal S256x1 .f32) (b4 : FVec Ideal S1 .f32) :
    FVec Ideal S2x1024x32 .f32 := fun i =>
  energyK (fun k => X (ix3 (i 0) (i 1) k)) (fun k => C (ix3 (i 0) (i 2) k)) (fun k => P (ix2 (i 0) k))
    (fun k j => W1 (ix2 k j)) (fun j => b1 (ix1 j)) (fun k j => W2 (ix2 k j)) (fun j => b2 (ix1 j))
    (fun k j => W3 (ix2 k j)) (fun j => b3 (ix1 j)) (fun k => W4 (ix2 k 0)) (b4 (ix1 0))

/-- The block index of every window at every grid point. -/
theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 2, t.val % 2, 0] ∧ t.val / 2 < 2 :=
  (by decide +kernel : ∀ t : Fin grid0.N, _)

/-- The result array after the run is the kernel's energy at every element: block by block, what a grid point stores at an
    index is the energy at the array index under it. -/
theorem final (c : Dev nD) : (dats m 0 c).arrAt 12 cfg0.N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (dats m 0 c).arrAt_eq_of_covers 12 _ (by decide +kernel) fun t _ y => ?_
  blk_simp
  rw [after0_12]; frame_out
  pointwise [k0_pay1, k0_pay2, k0_pay3, k0_pay4, k0_pay5, k0_pay6, k0_pay7, k0_pay8, G, energyK, tail, distK, preK, actK]
  blk_point [iblk, V, idx t]

end Cert.KernelIdeal.Block

end
-- ==== Proof.RefRead.lean ====
/- What the reference's result holds after its run: the reference's energy at every element. Untrusted. -/
module

public import proofs.«01_k».proof.Proof.Gen.ReferenceIdeal.Run
public import proofs.«01_k».proof.Proof.Energy
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.ReferenceIdeal.Value Cert.Energy

variable (m : (ℓ : Loc nD τ sig) → Buf (Elt Ideal) ℓ)

/-- The reference's energy at every element of the result, over the argument arrays. -/
def G (X : FVec Ideal S2x1024x512 .f32) (C : FVec Ideal S2x32x512 .f32) (P : FVec Ideal S2x64 .f32)
    (W1 : FVec Ideal S1088x512 .f32) (b1 : FVec Ideal S512 .f32) (W2 : FVec Ideal S512x512 .f32) (b2 : FVec Ideal S512 .f32)
    (W3 : FVec Ideal S512x256 .f32) (b3 : FVec Ideal S256 .f32) (W4 : FVec Ideal S256x1 .f32) (b4 : FVec Ideal S1 .f32) :
    FVec Ideal S2x1024x32 .f32 := fun i =>
  energyR (fun k => X (ix3 (i 0) (i 1) k)) (fun k => C (ix3 (i 0) (i 2) k)) (fun k => P (ix2 (i 0) k))
    (fun k j => W1 (ix2 k j)) (fun j => b1 (ix1 j)) (fun k j => W2 (ix2 k j)) (fun j => b2 (ix1 j))
    (fun k j => W3 (ix2 k j)) (fun j => b3 (ix1 j)) (fun k => W4 (ix2 k 0)) (b4 (ix1 0))

/-- The reference's result after its run is the reference's energy at every element. -/
theorem read (c : Dev nD) : res_main_v33 m c
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  funext j
  idx_vars j
  pointwise [res_main_v33, G, energyR, tail, distR, preR, actR]
  reads_congr
  · exact congrArg₂ (· + ·) (sum_three (fun k => m ((c : Thread nD τ).loc main_arg0) (ix3 j0 j1 k))
      (fun k => m ((c : Thread nD τ).loc main_arg1) (ix3 j0 j2 k)) (fun k => m ((c : Thread nD τ).loc main_arg2) (ix2 j0 k))
      (fun k => m ((c : Thread nD τ).loc main_arg3) (ix2 k x))) rfl
  · rfl
  · rfl

end Cert.ReferenceIdeal.Read

end
-- ==== Proof.Equation.lean ====
/- The equation of the two programs at one element: on finite inputs the kernel's energy is the reference's. Untrusted. -/
module

public import proofs.«01_k».proof.Proof.Energy

@[expose] public section

noncomputable section

namespace Cert.Energy

open Idealize.ShloMosaic

/-- The kernel's constant one half. -/
theorem ofBits_half : Ideal.ofBits .bf16 0x3F00#16 = ((1 / 2 : ℝ) : EReal) := by
  simp [Ideal.ofBits, Ideal.ieee]
  rw [← EReal.coe_mul]
  norm_num

/-- The kernel's constant two. -/
theorem ofBits_two : Ideal.ofBits .f32 0x40000000#32 = ((2 : ℝ) : EReal) := by
  simp [Ideal.ofBits, Ideal.ieee]
  rw [← EReal.coe_mul]
  norm_num

/-- A sum of real numbers is the same sum in the extended reals. -/
theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

/-- A sum of products of real numbers is the same sum in the extended reals. -/
theorem coe_dot {n : ℕ} (f g : Fin n → ℝ) : ∑ k, (f k : EReal) * (g k : EReal) = ((∑ k, f k * g k : ℝ) : EReal) := by
  rw [coe_sum]
  exact Finset.sum_congr rfl fun k _ => (EReal.coe_mul _ _).symm

/-- The activation of a real number, as a real number. -/
def act (x : ℝ) : ℝ := x * (1 + Real.exp (-x))⁻¹

/-- Half of `1 + tanh` of half of `x` is the reciprocal of `1 + exp (−x)`. -/
theorem half_tanh (x : ℝ) : 1 / 2 * x + 1 / 2 * x * Real.tanh (1 / 2 * x) = act x := by
  have hu : 0 < Real.exp (1 / 2 * x) := Real.exp_pos _
  have h1 : Real.exp (-x) = (Real.exp (1 / 2 * x))⁻¹ * (Real.exp (1 / 2 * x))⁻¹ := by
    rw [← Real.exp_neg, ← Real.exp_add]
    congr 1
    ring
  rw [act, Real.tanh_eq_sinh_div_cosh, Real.sinh_eq, Real.cosh_eq, Real.exp_neg (1 / 2 * x), h1]
  generalize Real.exp (1 / 2 * x) = u at hu
  have h2 : u + u⁻¹ ≠ 0 := by positivity
  have h3 : 1 + u⁻¹ * u⁻¹ ≠ 0 := by positivity
  field_simp
  ring

/-- The kernel's activation of a real number. -/
theorem actK_coe (x : ℝ) : actK x = (act x : EReal) := by
  rw [actK, ofBits_half, ← EReal.coe_mul, Ideal.tanh_coe, ← EReal.coe_mul, ← EReal.coe_add, half_tanh]

/-- The reference's activation of a real number. -/
theorem actR_coe (x : ℝ) : actR x = (act x : EReal) := by
  have h : 1 + Real.exp (-x) ≠ 0 := by positivity
  rw [actR, ← EReal.coe_neg, Ideal.exp_coe, ← EReal.coe_one, ← EReal.coe_add, Ideal.div,
    if_neg (fun e => h (EReal.coe_eq_zero.mp e)), ← EReal.coe_inv, ← EReal.coe_mul, ← EReal.coe_mul, act, one_mul]

/-- The first layer is the same number in both orders of its sums. -/
theorem preK_eq_preR (f c : Fin 512 → EReal) (p : Fin 64 → EReal) (W1 : Fin 1088 → Fin 512 → EReal) (b1 : Fin 512 → EReal)
    (j : Fin 512) : preK f c p W1 b1 j = preR f c p W1 b1 j := by
  unfold preK preR
  ac_rfl

/-- The first layer of real numbers is a real number. -/
theorem preR_coe (f c : Fin 512 → ℝ) (p : Fin 64 → ℝ) (W1 : Fin 1088 → Fin 512 → ℝ) (b1 : Fin 512 → ℝ) (j : Fin 512) :
    ∃ r : ℝ, preR (fun k => f k) (fun k => c k) (fun k => p k) (fun k j => W1 k j) (fun j => b1 j) j = (r : EReal) := by
  unfold preR
  rw [coe_dot f fun k => W1 ⟨k, by omega⟩ j, coe_dot c fun k => W1 ⟨512 + k, by omega⟩ j,
    coe_dot p fun k => W1 ⟨1024 + k, by omega⟩ j]
  simp only [← EReal.coe_add]
  exact ⟨_, rfl⟩

/-- Over a real first hidden layer, the last three layers are the same with either activation. -/
theorem tail_eq (h : Fin 512 → ℝ) (W2 : Fin 512 → Fin 512 → ℝ) (b2 : Fin 512 → ℝ) (W3 : Fin 512 → Fin 256 → ℝ)
    (b3 : Fin 256 → ℝ) (W4 : Fin 256 → EReal) (b4 : EReal) :
    tail actK (fun j => h j) (fun j k => W2 j k) (fun k => b2 k) (fun k l => W3 k l) (fun l => b3 l) W4 b4
      = tail actR (fun j => h j) (fun j k => W2 j k) (fun k => b2 k) (fun k l => W3 k l) (fun l => b3 l) W4 b4 := by
  unfold tail
  simp only [coe_dot h, ← EReal.coe_add, actK_coe, actR_coe, coe_dot fun k => act (∑ j, h j * W2 j k + b2 k)]

/-- The distance of two real vectors is the same number by the expanded square and by the sum of squared differences. -/
theorem dist_eq (f c : Fin 512 → ℝ) : distK (fun k => f k) (fun k => c k) = distR (fun k => f k) (fun k => c k) := by
  have e : ∑ k, f k * f k + ∑ k, c k * c k - 2 * ∑ k, f k * c k = ∑ k, (f k - c k) * (f k - c k) := by
    rw [Finset.mul_sum, ← Finset.sum_add_distrib, ← Finset.sum_sub_distrib]
    exact Finset.sum_congr rfl fun k _ => by ring
  have e0 : (0 : ℝ) ≤ ∑ k, (f k - c k) * (f k - c k) := Finset.sum_nonneg fun k _ => mul_self_nonneg _
  unfold distK distR
  simp only [← EReal.coe_sub]
  rw [coe_dot f f, coe_dot c c, coe_dot f c, coe_dot (fun k => f k - c k) fun k => f k - c k, ofBits_two, ← EReal.coe_mul,
    ← EReal.coe_add, ← EReal.coe_sub, e, max_eq_left (EReal.coe_nonneg.mpr e0), zero_add, mul_one]

/-- THE EQUATION: on finite inputs (the last layer's weights and bias free) the kernel's energy is the reference's. -/
theorem energy_eq (f c : Fin 512 → EReal) (p : Fin 64 → EReal) (W1 : Fin 1088 → Fin 512 → EReal) (b1 : Fin 512 → EReal)
    (W2 : Fin 512 → Fin 512 → EReal) (b2 : Fin 512 → EReal) (W3 : Fin 512 → Fin 256 → EReal) (b3 : Fin 256 → EReal)
    (W4 : Fin 256 → EReal) (b4 : EReal) (hf : ∀ k, f k ≠ ⊤ ∧ f k ≠ ⊥) (hc : ∀ k, c k ≠ ⊤ ∧ c k ≠ ⊥)
    (hp : ∀ k, p k ≠ ⊤ ∧ p k ≠ ⊥) (hW1 : ∀ k j, W1 k j ≠ ⊤ ∧ W1 k j ≠ ⊥) (hb1 : ∀ k, b1 k ≠ ⊤ ∧ b1 k ≠ ⊥)
    (hW2 : ∀ k j, W2 k j ≠ ⊤ ∧ W2 k j ≠ ⊥) (hb2 : ∀ k, b2 k ≠ ⊤ ∧ b2 k ≠ ⊥)
    (hW3 : ∀ k j, W3 k j ≠ ⊤ ∧ W3 k j ≠ ⊥) (hb3 : ∀ k, b3 k ≠ ⊤ ∧ b3 k ≠ ⊥) :
    energyK f c p W1 b1 W2 b2 W3 b3 W4 b4 = energyR f c p W1 b1 W2 b2 W3 b3 W4 b4 := by
  lift f to Fin 512 → ℝ using hf
  lift c to Fin 512 → ℝ using hc
  lift p to Fin 64 → ℝ using hp
  lift W1 to Fin 1088 → Fin 512 → ℝ using hW1
  lift b1 to Fin 512 → ℝ using hb1
  lift W2 to Fin 512 → Fin 512 → ℝ using hW2
  lift b2 to Fin 512 → ℝ using hb2
  lift W3 to Fin 512 → Fin 256 → ℝ using hW3
  lift b3 to Fin 256 → ℝ using hb3
  choose r hr using preR_coe f c p W1 b1
  unfold energyK energyR
  simp only [preK_eq_preR]
  refine congrArg₂ (· + ·) ?_ (dist_eq f c)
  simp only [hr, actK_coe, actR_coe]
  exact tail_eq (fun j => act (r j)) W2 b2 W3 b3 W4 b4

end Cert.Energy

end
-- ==== Proof.Finite.lean ====
/- What the precondition says: every element of the first nine arguments is a finite number. Untrusted. -/
module

public import proofs.«01_k».proof.Pre_finite
public import Idealize.ShloMosaic.Lib.ReduceAll
public import Idealize.ShloMosaic.Lib.Pipeline.ValueKit

@[expose] public section

noncomputable section

open Idealize.ShloMosaic

namespace Cert.Pre_finite.Read

open Cert.Pre_finite Cert.Pre_finite.Facts

/-- The precondition's infinite constant. -/
theorem ofBits_inf : Ideal.ofBits .f32 0x7F800000#32 = (⊤ : EReal) := by
  simp [Ideal.ofBits, Ideal.ieee]

/-- A number whose absolute value is below infinity is finite. -/
theorem finite_of_abs {x : EReal} (h : FloatOps.cmpf (F := Ideal) (φ := .f32) .olt (max x (-x)) (⊤ : EReal) = 1#1) :
    x ≠ ⊤ ∧ x ≠ ⊥ := by
  have h' : max x (-x) < ⊤ := by
    by_contra hn
    simp [Ideal.cmpf_def, Ideal.cmp, hn] at h
  refine ⟨fun e => ?_, fun e => ?_⟩ <;> subst e <;> simp at h'

/-- One array's check, read back: every element of the array is finite. -/
theorem finite_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : x i ≠ ⊤ ∧ x i ≠ ⊥ := by
  have h := Host.reduce_andi_all _ _ _ _ j e i
  refine finite_of_abs ?_
  rw [← ofBits_inf]
  exact h

variable [Facts]

/-- The precondition, read back: every element of the first nine arguments is finite. -/
theorem finite (x0 : FVec Ideal S2x1024x512 .f32) (x1 : FVec Ideal S2x32x512 .f32) (x2 : FVec Ideal S2x64 .f32)
    (x3 : FVec Ideal S1088x512 .f32) (x4 : FVec Ideal S512 .f32) (x5 : FVec Ideal S512x512 .f32) (x6 : FVec Ideal S512 .f32)
    (x7 : FVec Ideal S512x256 .f32) (x8 : FVec Ideal S256 .f32) (x9 : FVec Ideal S256x1 .f32) (x10 : FVec Ideal S1 .f32)
    (h : fn (F := Ideal) x0 x1 x2 x3 x4 x5 x6 x7 x8 x9 x10 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ (∀ i, x4 i ≠ ⊤ ∧ x4 i ≠ ⊥) ∧ (∀ i, x5 i ≠ ⊤ ∧ x5 i ≠ ⊥) ∧ (∀ i, x6 i ≠ ⊤ ∧ x6 i ≠ ⊥) ∧ (∀ i, x7 i ≠ ⊤ ∧ x7 i ≠ ⊥)
      ∧ (∀ i, x8 i ≠ ⊤ ∧ x8 i ≠ ⊥) := by
  have e := congrFun h ix0
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all x0 _ _ _ _ e0, finite_of_all x1 _ _ _ _ e1, finite_of_all x2 _ _ _ _ e2, finite_of_all x3 _ _ _ _ e3,
    finite_of_all x4 _ _ _ _ e4, finite_of_all x5 _ _ _ _ e5, finite_of_all x6 _ _ _ _ e6, finite_of_all x7 _ _ _ _ e7,
    finite_of_all x8 _ _ _ _ e8⟩

end Cert.Pre_finite.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Block
public import proofs.«01_k».proof.Proof.RefRead
public import proofs.«01_k».proof.Proof.Equation
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run: the argument arrays end unchanged, and every counter ends at zero, since the reference has no
    semaphore. -/
theorem ref_frame : Cert.quiescent_ReferenceIdeal (hReferenceIdeal := Cert.ReferenceIdeal.Gen.facts) := by
  intro m g _
  refine θ_run_mono (Cert.ReferenceIdeal.Value.run (F := Ideal) m g) fun r h => ⟨fun c => (h c).2, ?_⟩
  funext x
  obtain ⟨_, s | s⟩ := x
  · exact Fin.elim0 s
  · exact Fin.elim0 s

/-- Over equal argument arrays, finite as the precondition says, the kernel's result array is the reference's. -/
theorem result_eq (X : FVec Ideal Cert.KernelIdeal.S2x1024x512 .f32) (C : FVec Ideal Cert.KernelIdeal.S2x32x512 .f32)
    (P : FVec Ideal Cert.KernelIdeal.S2x64 .f32) (W1 : FVec Ideal Cert.KernelIdeal.S1088x512 .f32)
    (b1 : FVec Ideal Cert.KernelIdeal.S512 .f32) (W2 : FVec Ideal Cert.KernelIdeal.S512x512 .f32)
    (b2 : FVec Ideal Cert.KernelIdeal.S512 .f32) (W3 : FVec Ideal Cert.KernelIdeal.S512x256 .f32)
    (b3 : FVec Ideal Cert.KernelIdeal.S256 .f32) (W4 : FVec Ideal Cert.KernelIdeal.S256x1 .f32)
    (b4 : FVec Ideal Cert.KernelIdeal.S1 .f32)
    (h : Cert.Pre_finite.fn (F := Ideal) X C P W1 b1 W2 b2 W3 b3 W4 b4 = fun _ => 1#1) :
    Cert.KernelIdeal.Block.G X C P W1 b1 W2 b2 W3 b3 W4 b4 = Cert.ReferenceIdeal.Read.G X C P W1 b1 W2 b2 W3 b3 W4 b4 := by
  obtain ⟨hX, hC, hP, hW1, hb1, hW2, hb2, hW3, hb3⟩ := Cert.Pre_finite.Read.finite X C P W1 b1 W2 b2 W3 b3 W4 b4 h
  funext i
  exact Cert.Energy.energy_eq _ _ _ _ _ _ _ _ _ _ _ (fun _ => hX _) (fun _ => hC _) (fun _ => hP _) (fun _ _ => hW1 _)
    (fun _ => hb1 _) (fun _ _ => hW2 _) (fun _ => hb2 _) (fun _ _ => hW3 _) (fun _ => hb3 _)

/-- The two programs, run from equal finite arguments, end with the same result array. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · refine θ_run_mono (Cert.ReferenceIdeal.Value.run (F := Ideal) m' g') fun r h c => ⟨?_, (h c).2⟩
    refine ((h c).1.trans (Cert.ReferenceIdeal.Read.read m' c)).trans (Eq.trans ?_ (Cert.KernelIdeal.Block.final m c).symm)
    obtain ⟨e0, e1, e2, e3, e4, e5, e6, e7, e8, e9, e10⟩ := hagree c
    rw [e0, e1, e2, e3, e4, e5, e6, e7, e8, e9, e10]
    exact (result_eq _ _ _ _ _ _ _ _ _ _ _ (hpre c)).symm

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial, trivial, value⟩

end Cert.Proof

end
